-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1x512x512 : Shape := ⟨4, ![32, 1, 512, 512]⟩
abbrev S8192x1024 : Shape := ⟨2, ![8192, 1024]⟩
abbrev S1 : Shape := ⟨1, ![1]⟩
abbrev S512x1024 : Shape := ⟨2, ![512, 1024]⟩
abbrev S4 : Shape := ⟨1, ![4]⟩
abbrev S1x512x1024 : Shape := ⟨3, ![1, 512, 1024]⟩
abbrev S1x1x1 : Shape := ⟨3, ![1, 1, 1]⟩
abbrev S_ : Shape := ⟨0, ![]⟩

abbrev nBuf : Space → Nat
  | .hbm => 6
  | .vmem => 5
  | .smem => 2
  | _ => 0

abbrev bufTy : (tb : Table) → Fin (tcTables nBuf tb) → BufTy
  | .hbm, ⟨0, _⟩ => ⟨S32x1x512x512, .f32⟩
  | .hbm, ⟨1, _⟩ => ⟨S32x1x512x512, .f32⟩
  | .hbm, ⟨2, _⟩ => ⟨S8192x1024, .f32⟩
  | .hbm, ⟨3, _⟩ => ⟨S8192x1024, .f32⟩
  | .hbm, ⟨4, _⟩ => ⟨S1, .f32⟩
  | .hbm, ⟨5, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8192x1024, .f32⟩
  | .local _ .smem, ⟨0, _⟩ => ⟨S1, .f32⟩
  | .local _ .smem, ⟨1, _⟩ => ⟨S4, .f32⟩
  | _, _ => ⟨S32x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_stg2_0 : Ref sig .tc := ⟨.smem, 0, rfl⟩
abbrev cc0_scratch1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c512_i32 : BitVec 32 := 512#32
  let v13 : BitVec 32 := Scalar.muli arg0 c512_i32
  let v14 : Index := Scalar.indexCast v13
  let c0_5 : Index := 0#32
  ![v14.toNat, 0]
def k0_cond2 (i : grid0.Coords) : BitVec 1 :=
  let arg0 : BitVec 32 := BitVec.ofNat 32 (i 0).val
  let c15_i32 : BitVec 32 := 15#32
  let v42 : BitVec 1 := Scalar.cmpi .eq arg0 c15_i32
  let v43 : BitVec 32 := Scalar.extui v42
  let c0_i32_15 : BitVec 32 := 0#32
  let v44 : BitVec 1 := Scalar.cmpi .ne v43 c0_i32_15
  v44

@[reducible] def k0_t1_loop : Scf.Loop 32 :=
  let c0_i32_22 : BitVec 32 := 0#32
  let c16_i32 : BitVec 32 := 16#32
  let v49 : BitVec 32 := Scalar.addi c0_i32_22 c16_i32
  let c1_i32 : BitVec 32 := 1#32
  ⟨c0_i32_22, v49, c1_i32⟩
def k0_off2 (k0_t1 : Fin k0_t1_loop.trips) : Fin 2 → Nat :=
  let c0_i32_22 : BitVec 32 := 0#32
  let c1_i32 : BitVec 32 := 1#32
  let arg6 : BitVec 32 := Scf.iv c0_i32_22 c1_i32 k0_t1
  let c512_i32_28 : BitVec 32 := 512#32
  let v59 : BitVec 32 := Scalar.muli arg6 c512_i32_28
  let v60 : Index := Scalar.indexCast v59
  let c0_29 : Index := 0#32
  ![v60.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S32x1x512x512 : Shape := ⟨4, ![32, 1, 512, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S32x1x512x512, .f32⟩
  | .hbm, ⟨1, _⟩ => ⟨S32x1x512x512, .f32⟩
  | .hbm, ⟨2, _⟩ => ⟨S_, .f32⟩
  | .hbm, ⟨3, _⟩ => ⟨S32x1x512x512, .f32⟩
  | .hbm, ⟨4, _⟩ => ⟨S32x1x512x512, .i1⟩
  | .hbm, ⟨5, _⟩ => ⟨S32x1x512x512, .f32⟩
  | .hbm, ⟨6, _⟩ => ⟨S32x1x512x512, .f32⟩
  | .hbm, ⟨7, _⟩ => ⟨S_, .f32⟩
  | .hbm, ⟨8, _⟩ => ⟨S32x1x512x512, .f32⟩
  | .hbm, ⟨9, _⟩ => ⟨S32x1x512x512, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S32x1x512x512, .f32⟩
  | .hbm, ⟨15, _⟩ => ⟨S32x1x512x512, .i1⟩
  | .hbm, ⟨16, _⟩ => ⟨S32x1x512x512, .i1⟩
  | .hbm, ⟨17, _⟩ => ⟨S32x1x512x512, .f32⟩
  | .hbm, ⟨18, _⟩ => ⟨S32x1x512x512, .f32⟩
  | .hbm, ⟨19, _⟩ => ⟨S_, .f32⟩
  | .hbm, ⟨20, _⟩ => ⟨S32x1x512x512, .f32⟩
  | .hbm, ⟨21, _⟩ => ⟨S32x1x512x512, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S32x1x512x512, .f32⟩
  | .hbm, ⟨27, _⟩ => ⟨S32x1x512x512, .f32⟩
  | .hbm, ⟨28, _⟩ => ⟨S32x1x512x512, .f32⟩
  | .hbm, ⟨29, _⟩ => ⟨S_, .f32⟩
  | .hbm, ⟨30, _⟩ => ⟨S32x1x512x512, .f32⟩
  | .hbm, ⟨31, _⟩ => ⟨S32x1x512x512, .f32⟩
  | .hbm, ⟨32, _⟩ => ⟨S_, .f32⟩
  | .hbm, ⟨33, _⟩ => ⟨S_, .f32⟩
  | .hbm, ⟨34, _⟩ => ⟨S32x1x512x512, .i32⟩
  | .hbm, ⟨35, _⟩ => ⟨S_, .i32⟩
  | .hbm, ⟨36, _⟩ => ⟨S_, .i32⟩
  | .hbm, ⟨37, _⟩ => ⟨S_, .f32⟩
  | .hbm, ⟨38, _⟩ => ⟨S_, .f32⟩
  | _, _ => ⟨S32x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_call0_v0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_v23 : Ref sig .tc := ⟨.hbm, 34, rfl⟩
abbrev main_c : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.CellWrites
public import Idealize.ShloMosaic.Lib.WritesUnit
public import Idealize.ShloMosaic.Lib.VecWindow

@[expose] public section

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev 𝒱₀ : Variants := Variants.none

/-! ## What the body computes, by name -/

/-- One block of the two operands: 512 rows of 1024. -/
abbrev Blk (F : FTy → Type) : Type := Vec F S512x1024 .f32

/-- The three running scalars: the largest masked difference, the sum of the masked differences, the count of valid
    elements. -/
structure Run (F : FTy → Type) where
  top : F .f32
  sum : F .f32
  cnt : F .f32

/-- The scalars the first point starts from. -/
def Run.zero : Run F := ⟨Scalar.ofBits .f32 0x00000000#32, Scalar.ofBits .f32 0x00000000#32, Scalar.ofBits .f32 0x00000000#32⟩

/-- The scalars after one more block `p` of predictions and `g` of ground truths. -/
def Run.step (s : Run F) (p g : Blk F) : Run F := ⟨k0_pay10 p g s.top, k0_pay11 p g s.sum, k0_pay1 s.cnt (k0_pay12 g)⟩

/-- The two sums of the last point's loop over the kept blocks `w 0, w 1, …`, before trip `k`: of the squared excesses
    over half of `top`, and of the differences above half of `top`. -/
def tailSums (top : F .f32) (w : ℕ → Blk F) : ℕ → F .f32 × F .f32
  | 0 => (Scalar.ofBits .f32 0x00000000#32, Scalar.ofBits .f32 0x00000000#32)
  | k + 1 => (k0_pay3 top (tailSums top w k).1 (w k), k0_pay4 top (tailSums top w k).2 (w k))

/-- The value the last point stores: from the final scalars and the loop's two sums. -/
def result (s : Run F) (w : ℕ → Blk F) : F .f32 :=
  k0_pay5 s.top (tailSums s.top w 16).1 (tailSums s.top w 16).2 s.sum s.cnt

/-! ## What the scratch buffers hold -/

/-- Word `k` of the scalar scratch. -/
def cell (k : Fin 4) : S4.Idx := fun a => ⟨k.val, by fin_cases a; exact k.isLt⟩

/-- The scalar scratch holds the running scalars in its words 0, 1 and 2. -/
def Words (s : Run F) (f : Vec F S4 .f32) : Prop := f (cell 0) = s.top ∧ f (cell 1) = s.sum ∧ f (cell 2) = s.cnt

/-- The big scratch holds the blocks `w 0, …, w (n - 1)`, one below the other. -/
def Rows (w : ℕ → Blk F) (n : ℕ) (f : Vec F S8192x1024 .f32) : Prop :=
  ∀ k < n, ∀ (y : S8192x1024.Idx) (x : S512x1024.Idx), (y 0).val = 512 * k + (x 0).val → (y 1).val = (x 1).val → f y = w k x

/-- Storing block `w n` at row `512 n` extends the kept blocks by one. -/
theorem Rows.store {w : ℕ → Blk F} {M4 : Memref sig .tc .vmem S8192x1024 .f32} {f : M4.view.ty.Contents (Elt F)} (i : grid0.Coords)
    (h : Rows w (i 0).val (M4.view.read (Elt F) f)) :
    Rows w ((i 0).val + 1) (M4.view.read (Elt F) (M4.view.writes (Elt F) f
      [⟨Rect.unit (s := S8192x1024) (k0_off1 i) S512x1024.size (k0_off1_inb i), w (i 0).val⟩])) := by
  intro k hk y x h0 h1
  by_cases e : k = (i 0).val
  · subst e
    exact View.read_writes_cons_rows_of_mem M4.view f (k0_off1_inb i) _ _ y x (k0_off1_eq i) h0 h1
  · have hx : (x 0).val < 512 := (x 0).isLt
    rw [View.read_writes_cons_rows_of_not_mem M4.view f (k0_off1_inb i) _ _ y (k0_off1_eq i) rfl (by omega)]
    exact h k (by omega) y x h0 h1

/-- A load of 512 rows at row `512 k` of the kept blocks is block `w k`. -/
theorem Rows.load {w : ℕ → Blk F} {n : ℕ} {M4 : Memref sig .tc .vmem S8192x1024 .f32} {f : M4.view.ty.Contents (Elt F)}
    (h : Rows w n (M4.view.read (Elt F) f)) (k : Fin k0_t1_loop.trips) (hk : k.val < n)
    (inb : ∀ a, (k0_off2 k) a + S512x1024.size a ≤ S8192x1024.size a) :
    M4.view.readAt (Elt F) (Rect.unit (s := S8192x1024) (k0_off2 k) S512x1024.size inb).toLoadRect f = w k.val := by
  rw [View.readAt_unit M4.view f inb (k0_off2_eq k) (fun a => k0_off2_eq k ▸ inb a)]
  funext x
  refine h k.val hk _ x ?_ ?_
  · show 512 * k.val + 1 * (x 0).val = _; omega
  · show 0 + 1 * (x 1).val = _; omega

/-! ## The loop of the last point -/

/-- The loop's carried pair before trip `k` is `tailSums`, when the big scratch holds all sixteen blocks. -/
theorem st_eq {w : ℕ → Blk F} (c : Dev nD) (i : grid0.Coords)
    (M1 : Memref sig .tc .vmem S512x1024 .f32) (h1 : M1.IsWhole) (M2 : Memref sig .tc .vmem S512x1024 .f32) (h2 : M2.IsWhole)
    (M3 : Memref sig .tc .smem S1 .f32) (h3 : M3.IsWhole) (M4 : Memref sig .tc .vmem S8192x1024 .f32) (h4 : M4.IsWhole)
    (M5 : Memref sig .tc .smem S4 .f32) (h5 : M5.IsWhole) (hc : k0_cond2 i = 1#1) (top : F .f32) (f : M4.view.ty.Contents (Elt F))
    (h : Rows w 16 (M4.view.read (Elt F) f)) (k : ℕ) (hk : k ≤ k0_t1_loop.trips) :
    st_k0_t1 (F := F) 𝒱₀ c none i M1 h1 M2 h2 M3 h3 M4 h4 M5 h5 hc top f (tailSums top w 0) k = tailSums top w k := by
  induction k with
  | zero => rfl
  | succ k ih =>
    have hlt : k < k0_t1_loop.trips := hk
    rw [show k + 1 = (⟨k, hlt⟩ : Fin k0_t1_loop.trips).val + 1 from rfl, st_k0_t1_succ, ih hlt.le]
    unfold tripR_k0_t1 trip_k0_t1
    show (k0_pay3 top _ _, k0_pay4 top _ _) = (k0_pay3 top _ _, k0_pay4 top _ _)
    rw [h.load ⟨k, hlt⟩ (Nat.lt_of_lt_of_le hlt k0_t1_abs.2.1)]

theorem trips_eq : k0_t1_loop.trips = 16 := by decide +kernel

/-! ## The two guards -/

/-- The guard of the first point's resets. -/
abbrev cond1 (i : grid0.Coords) : BitVec 1 :=
  Scalar.cmpi .ne (Scalar.extui (Scalar.cmpi .eq (BitVec.ofNat 32 (i 0).val) 0#32) : BitVec 32) 0#32
theorem cond1_iff : ∀ i : grid0.Coords, cond1 i = 1#1 ↔ (i 0).val = 0 := by decide +kernel
theorem cond2_iff : ∀ i : grid0.Coords, k0_cond2 i = 1#1 ↔ (i 0).val = 15 := by decide +kernel

/-! ## Words and blocks, loaded and stored -/

/-- A load of word `k` of the scalar scratch. -/
theorem word_read {M5 : Memref sig .tc .smem S4 .f32} (f : M5.view.ty.Contents (Elt F)) (k : Fin 4)
    (inb : ∀ a, (![k.val] : Fin 1 → ℕ) a + S1.size a ≤ S4.size a) (x : S1.Idx) :
    M5.view.readAt (Elt F) (Rect.unit (s := S4) ![k.val] S1.size inb).toLoadRect f x = M5.view.read (Elt F) f (cell k) := by
  rw [View.readAt_unit M5.view f inb rfl inb]
  refine congrArg (M5.view.read (Elt F) f) (funext fun a => Fin.ext ?_)
  fin_cases a
  have : (x 0).val < 1 := (x 0).isLt
  show k.val + 1 * (x 0).val = k.val
  omega

/-- The scalar scratch after a point's three stores, whatever was stored before them: the running scalars one step on. -/
theorem Words.stored {s : Run F} {M1 M2 : Memref sig .tc .vmem S512x1024 .f32} {M5 : Memref sig .tc .smem S4 .f32}
    (f1 : M1.view.ty.Contents (Elt F)) (f2 : M2.view.ty.Contents (Elt F)) (f : M5.view.ty.Contents (Elt F))
    (L : List (View.Piece (Elt F) S4 .f32)) (a b n : F .f32) (ha : a = s.top) (hb : b = s.sum) (hn : n = s.cnt) :
    Words (s.step (M1.view.read (Elt F) f1) (M2.view.read (Elt F) f2)) (M5.view.read (Elt F) (M5.view.writes (Elt F) f
      (⟨Rect.unit ![2] S1.size inb_S4_S1_2, fun _ => k0_pay1 n (k0_pay12
          (M2.view.readAt (Elt F) (Rect.unit ![0, 0] S512x1024.size inb_S512x1024_S512x1024_0_0).toLoadRect f2))⟩
        :: ⟨Rect.unit ![1] S1.size inb_S4_S1_1, fun _ => k0_pay11
          (M1.view.readAt (Elt F) (Rect.unit ![0, 0] S512x1024.size inb_S512x1024_S512x1024_0_0).toLoadRect f1)
          (M2.view.readAt (Elt F) (Rect.unit ![0, 0] S512x1024.size inb_S512x1024_S512x1024_0_0).toLoadRect f2) b⟩
        :: ⟨Rect.unit ![0] S1.size inb_S4_S1_0, fun _ => k0_pay10
          (M1.view.readAt (Elt F) (Rect.unit ![0, 0] S512x1024.size inb_S512x1024_S512x1024_0_0).toLoadRect f1)
          (M2.view.readAt (Elt F) (Rect.unit ![0, 0] S512x1024.size inb_S512x1024_S512x1024_0_0).toLoadRect f2) a⟩ :: L))) := by
  subst ha hb hn
  rw [View.readAt_full M1.view f1, View.readAt_full M2.view f2]
  refine ⟨?_, ?_, ?_⟩
  · refine (View.read_writes_cons_cell M5.view f inb_S4_S1_2 _ _ _).trans ?_
    rw [if_neg (by decide)]
    refine (View.read_writes_cons_cell M5.view f inb_S4_S1_1 _ _ _).trans ?_
    rw [if_neg (by decide)]
    refine (View.read_writes_cons_cell M5.view f inb_S4_S1_0 _ _ _).trans ?_
    rw [if_pos (by decide)]
    rfl
  · refine (View.read_writes_cons_cell M5.view f inb_S4_S1_2 _ _ _).trans ?_
    rw [if_neg (by decide)]
    refine (View.read_writes_cons_cell M5.view f inb_S4_S1_1 _ _ _).trans ?_
    rw [if_pos (by decide)]
    rfl
  · refine (View.read_writes_cons_cell M5.view f inb_S4_S1_2 _ _ _).trans ?_
    rw [if_pos (by decide)]
    rfl

/-- The result's one word after the last point's store. -/
theorem out_stored {M3 : Memref sig .tc .smem S1 .f32} (f : M3.view.ty.Contents (Elt F)) (v v' : F .f32) (h : v = v') :
    M3.view.read (Elt F) (M3.view.writes (Elt F) f [⟨Rect.unit ![0] S1.size inb_S1_S1_0, fun _ => v⟩]) = fun _ => v' := by
  subst h
  funext y
  have : (y 0).val < 1 := (y 0).isLt
  refine (View.read_writes_cons_cell M3.view f inb_S1_S1_0 _ _ y).trans (if_pos ?_)
  show (y 0).val = 0
  omega

/-! ## The body's triple -/

/-- The body at grid point `i`, on whole buffers: the two operand blocks `p` and `g` as they were; the big scratch one
    block further; the scalar scratch one step further; the result's buffer untouched but at the last point, where it
    holds `result`. -/
theorem body_spec {w : ℕ → Blk F} {s : Run F} (c : Dev nD) (i : grid0.Coords)
    (M1 : Memref sig .tc .vmem S512x1024 .f32) (h1 : M1.IsWhole) (M2 : Memref sig .tc .vmem S512x1024 .f32) (h2 : M2.IsWhole)
    (M3 : Memref sig .tc .smem S1 .f32) (h3 : M3.IsWhole) (M4 : Memref sig .tc .vmem S8192x1024 .f32) (h4 : M4.IsWhole)
    (M5 : Memref sig .tc .smem S4 .f32) (h5 : M5.IsWhole)
    (p g : Blk F) (d : Vec F S1 .f32) (f4 : Vec F S8192x1024 .f32) (f5 : Vec F S4 .f32)
    (hw : w (i 0).val = k0_pay9 p g) (hR : Rows w (i 0).val f4)
    (hs : (i 0).val = 0 → s = Run.zero) (hW : (i 0).val ≠ 0 → Words s f5) (E : Set ℕ) (K : Unit → sProp 𝕄) :
    iprop(owns (c : Thread nD τ) M1 fullShare p ∗ owns (c : Thread nD τ) M2 fullShare g ∗ owns (c : Thread nD τ) M3 fullShare d
        ∗ owns (c : Thread nD τ) M4 fullShare f4 ∗ owns (c : Thread nD τ) M5 fullShare f5
        ∗ (iprop(owns (c : Thread nD τ) M1 fullShare p ∗ owns (c : Thread nD τ) M2 fullShare g
          ∗ owns (c : Thread nD τ) M3 fullShare (if (i 0).val = 15 then fun _ => result (s.step p g) w else d)
          ∗ (∃ f4', owns (c : Thread nD τ) M4 fullShare f4' ∗ ⌜Rows w ((i 0).val + 1) f4'⌝)
          ∗ ∃ f5', owns (c : Thread nD τ) M5 fullShare f5' ∗ ⌜Words (s.step p g) f5'⌝) -∗ K ⟨⟩))
      ⊢ wp frame (wpE (defs₀ (F := F)) 𝒱₀ c none) E (cc0__berhu_body i M1 h1 M2 h2 M3 h3 M4 h4 M5 h5) K := by
  have hlt : (i 0).val < 16 := Fin.isLt (i 0)
  unfold owns
  iintro ⟨⟨%f1, %hf1, H1⟩, ⟨%f2, %hf2, H2⟩, ⟨%f3, %hf3, H3⟩, ⟨%g4, %hf4, H4⟩, ⟨%g5, %hf5, H5⟩, HK⟩
  subst hf1 hf2 hf3 hf4 hf5
  have hrow := hR.store i
  rw [hw, ← View.readAt_full M1.view f1 inb_S512x1024_S512x1024_0_0, ← View.readAt_full M2.view f2 inb_S512x1024_S512x1024_0_0] at hrow
  rcases Nat.eq_zero_or_pos (i 0).val with h0 | h0
  · have hc1 : cond1 i = 1#1 := (cond1_iff i).2 h0
    have hc2 : ¬ k0_cond2 i = 1#1 := fun h => by have := (cond2_iff i).1 h; omega
    sl_unfold [cc0__berhu_body]
    sl_exec (disch := first | sl_exact hc1 | sl_exact hc2)
    sl_step
    iapply HK
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rw [if_neg (by omega)]
    isplitl [H4]
    · iexists _; isplitl [H4]
      · iexists _; isplitr; swap; · iexact H4
        ipureintro; rfl
      ipureintro; exact hrow
    iexists _; isplitl [H5]
    · iexists _; isplitr; swap; · iexact H5
      ipureintro; rfl
    ipureintro
    refine Words.stored f1 f2 g5 _ _ _ _ ?_ ?_ ?_
    all_goals rw [hs h0]; rfl
  have hW := hW h0.ne'
  have hc1 : ¬ cond1 i = 1#1 := fun h => by have := (cond1_iff i).1 h; omega
  rcases Nat.lt_or_ge (i 0).val 15 with h15 | h15
  · have hc2 : ¬ k0_cond2 i = 1#1 := fun h => by have := (cond2_iff i).1 h; omega
    sl_unfold [cc0__berhu_body]
    sl_exec (disch := first | sl_exact hc1 | sl_exact hc2)
    sl_step
    iapply HK
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rw [if_neg (by omega)]
    isplitl [H4]
    · iexists _; isplitl [H4]
      · iexists _; isplitr; swap; · iexact H4
        ipureintro; rfl
      ipureintro; exact hrow
    iexists _; isplitl [H5]
    · iexists _; isplitr; swap; · iexact H5
      ipureintro; rfl
    ipureintro
    refine Words.stored f1 f2 g5 _ _ _ _ ?_ ?_ ?_
    · exact (word_read g5 0 _ _).trans hW.1
    · exact (word_read g5 1 _ _).trans hW.2.1
    · exact (word_read g5 2 _ _).trans hW.2.2
  · have hc2 : k0_cond2 i = 1#1 := (cond2_iff i).2 (by omega)
    sl_unfold [cc0__berhu_body]
    sl_exec (disch := first | sl_exact hc1 | sl_exact hc2)
    sl_step
    iapply HK
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro
      rw [if_pos (by omega)]
      refine out_stored f3 _ _ ?_
      have e0 : body_spec.sl.r_12 c M1 M2 M5 f1 f2 g5 = (s.step (M1.view.read (Elt F) f1) (M2.view.read (Elt F) f2)).top := by
        unfold body_spec.sl.r_12
        rw [View.readAt_full, View.readAt_full]
        exact congrArg _ ((word_read g5 0 _ _).trans hW.1)
      have e1 : body_spec.sl.r_13 c M1 M2 M5 f1 f2 g5 = (s.step (M1.view.read (Elt F) f1) (M2.view.read (Elt F) f2)).sum := by
        unfold body_spec.sl.r_13
        rw [View.readAt_full, View.readAt_full]
        exact congrArg _ ((word_read g5 1 _ _).trans hW.2.1)
      have e2 : body_spec.sl.r_14 c M2 M5 f2 g5 = (s.step (M1.view.read (Elt F) f1) (M2.view.read (Elt F) f2)).cnt := by
        unfold body_spec.sl.r_14 body_spec.sl.r_11
        rw [View.readAt_full]
        exact congrArg (k0_pay1 · _) ((word_read g5 2 _ _).trans hW.2.2)
      have hi : (i 0).val + 1 = 16 := by omega
      have hloop := st_eq c i M1 h1 M2 h2 M3 h3 M4 h4 M5 h5 hc2 (body_spec.sl.r_12 c M1 M2 M5 f1 f2 g5) _ (hi ▸ hrow) _ le_rfl
      rw [trips_eq] at hloop
      unfold result
      rw [← e0, ← e1, ← e2, ← hloop, ← trips_eq]
      rfl
    isplitl [H4]
    · iexists _; isplitl [H4]
      · iexists _; isplitr; swap; · iexact H4
        ipureintro; rfl
      ipureintro; exact hrow
    iexists _; isplitl [H5]
    · iexists _; isplitr; swap; · iexact H5
      ipureintro; rfl
    ipureintro
    refine Words.stored f1 f2 g5 _ _ _ _ ?_ ?_ ?_
    · exact (word_read g5 0 _ _).trans hW.1
    · exact (word_read g5 1 _ _).trans hW.2.1
    · exact (word_read g5 2 _ _).trans hW.2.2

end Cert.Proof

end
-- ==== Proof.Launch.lean ====
module

public import proofs.«01_k».proof.Proof.Body
public import Idealize.ShloMosaic.Lib.Pipeline.ValueKit.Geometry
public import Idealize.ShloMosaic.Lib.Quiescent

@[expose] public section

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks, the kept blocks and the running scalars, by point -/

/-- The grid's point `k`, read modulo its sixteen points. -/
def pt (k : ℕ) : Fin cfg0.N := (⟨k % 16, Nat.mod_lt _ (by decide)⟩ : Fin 16)
theorem pt_val (t : Fin cfg0.N) : pt t.val = t := Fin.ext (Nat.mod_eq_of_lt (show t.val < 16 from t.isLt))
/-- Point `k`'s block of the predictions. -/
def pblk (c : Dev nD) (k : ℕ) : Blk F := iblk m c 0 (pt k)
/-- Point `k`'s block of the ground truths. -/
def gblk (c : Dev nD) (k : ℕ) : Blk F := iblk m c 1 (pt k)
/-- What point `k` keeps in the big scratch: its masked differences. -/
def kept (c : Dev nD) (k : ℕ) : Blk F := k0_pay9 (pblk m c k) (gblk m c k)
/-- The running scalars before point `n`. -/
def acc (c : Dev nD) : ℕ → Run F
  | 0 => Run.zero
  | n + 1 => (acc c n).step (pblk m c n) (gblk m c n)
/-- The kernel's one result on core `c`. -/
def value (c : Dev nD) : F .f32 := result (acc m c 16) (kept m c)

/-! ## The pipeline's proof data -/

/-- The invariant before point `n`: the big scratch holds the blocks of the points before `n`, the scalar scratch their
    running scalars (anything, before the first point). -/
def Inv (c : Dev nD) (n : ℕ) : sProp 𝕄 :=
  iprop((∃ f4, owns (c : Thread nD τ) (Memref.whole cc0_scratch0) fullShare f4 ∗ ⌜Rows (kept m c) n f4⌝)
    ∗ (∃ f5, owns (c : Thread nD τ) (Memref.whole cc0_scratch1) fullShare f5 ∗ ⌜n ≠ 0 → Words (acc m c n) f5⌝)
    ∗ ∃ r, prngReg c r)

/-- The arrays as the region finds them; after the body each input's buffer at its block and the result's at `value`;
    the invariant `Inv`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => fun _ => value m c
  Φ t := Inv m c t.val
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = fun _ => value m c := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

theorem Phi_castSucc (c : Dev nD) (t : Fin cfg0.N) : (dats m 0 c).Φ t.castSucc = Inv m c t.val := by
  dsimp only [dats]; exact Pipeline.Dat.Φ_castSucc (fun n _ => Inv m c n) t
theorem Phi_succ (c : Dev nD) (t : Fin cfg0.N) : (dats m 0 c).Φ t.succ = Inv m c (t.val + 1) := by
  dsimp only [dats]; rfl

/-! ## The body obligation -/

theorem coords_val : ∀ t : Fin grid0.N, (grid0.coords t 0).val = t.val := by decide +kernel
theorem idle_iff : ∀ t : Fin grid0.N, idle0 2 (grid0.coords t) = true ↔ t.val ≠ 15 := by decide +kernel
theorem not_idle_iff : ∀ t : Fin grid0.N, idle0 2 (grid0.coords t) = false ↔ t.val = 15 := by decide +kernel
theorem pblk_at (c : Dev nD) (t : Fin cfg0.N) : pblk m c t.val = iblk m c 0 t := by
  unfold pblk; rw [pt_val]
theorem gblk_at (c : Dev nD) (t : Fin cfg0.N) : gblk m c t.val = iblk m c 1 t := by
  unfold gblk; rw [pt_val]

/-- The library's body obligation: at each point the body takes the invariant one point further, leaves the inputs'
    buffers at their blocks, and the result's as found but at the last point, at `value` there. -/
theorem body_obligation (c : Dev nD) : BodyObligation (dats (F := F) m 0 c) (defs₀ (F := F)) 𝒱₀ () Set.univ := fun t => by
  have hv : (grid0.coords t 0).val = t.val := coords_val t
  have hlt : t.val < 16 := t.isLt
  rw [bigSep_W0, bigSep_W0]
  sl_whnfR [defs₀, Defs.onTc]
  simp only [before0_0, before0_1]
  rewrite [Phi_castSucc, Phi_succ, show (dats m 0 c).owesAt () t.succ = (dats m 0 c).owesAt () t.castSucc from rfl,
    after0_0, after0_1, after0_2, ← pblk_at, ← gblk_at]
  unfold Inv
  iintro ⟨⟨⟨%f4, H4, %hR⟩, ⟨%f5, H5, %hW⟩, Hp⟩, Ho, ⟨%d0, H0⟩, ⟨%d1, H1⟩, ⟨%d2, H2⟩⟩
  iapply (body_spec (w := kept m c) (s := acc m c t.val) c (grid0.coords t) _ _ _ _ _ _ _ _ _ _ (pblk m c t.val) (gblk m c t.val)
    _ f4 f5 (by rw [hv]; rfl) (by rw [hv]; exact hR) (by rw [hv]; intro h; rw [h]; rfl) (by rw [hv]; exact hW) Set.univ _)
  isplitl [H0]; · iexact H0
  isplitl [H1]; · iexact H1
  isplitl [H2]; · iexact H2
  isplitl [H4]; · iexact H4
  isplitl [H5]; · iexact H5
  iintro ⟨H0, H1, H2, ⟨%f4', H4, %hR'⟩, ⟨%f5', H5, %hW'⟩⟩
  isplitl [H4 H5 Hp]
  · isplitl [H4]
    · iexists f4'; isplitl [H4]; · iexact H4
      ipureintro; rw [← hv]; exact hR'
    isplitl [H5]
    · iexists f5'; isplitl [H5]; · iexact H5
      ipureintro; intro _; exact hW'
    iexact Hp
  isplitl [Ho]; · iexact Ho
  isplitl [H0]; · iexact H0
  isplitl [H1]; · iexact H1
  rw [hv]
  by_cases h : t.val = 15
  · rewrite [(not_idle_iff t).2 h, if_pos h, show value m c = result ((acc m c t.val).step (pblk m c t.val) (gblk m c t.val)) (kept m c) by rw [h]; rfl]
    iexact H2
  · have hfl : (win0 2).flush t = false := by
      rw [Bool.eq_false_iff]; intro hf; have := (flush0_2 t).1 hf; omega
    rewrite [(idle_iff t).2 h, hfl, if_neg h]
    iexists d2; iexact H2

/-! ## The run -/

/-- The scratch buffers and the generator's register at any contents are the invariant before the first point. -/
theorem Inv_in (c : Dev nD) : ΦA spec0 c ⊢ (dats m 0 c).Φ 0 := by
  show ΦA spec0 c ⊢ Inv m c 0
  unfold ΦA Inv
  rw [scopedRest0_eq]
  simp only [owns_whole]
  iintro ⟨⟨⟨%f4, H4⟩, ⟨%f5, H5⟩⟩, Hp⟩
  isplitl [H4]
  · iexists f4; isplitl [H4]; · iexact H4
    ipureintro; intro k hk; omega
  isplitl [H5]
  · iexists f5; isplitl [H5]; · iexact H5
    ipureintro; intro h; exact absurd rfl h
  iexact Hp

/-- The invariant after the last point gives the scratch buffers back at some contents. -/
theorem Inv_out (c : Dev nD) : (dats m 0 c).Φ (Fin.last cfg0.N) ⊢ ΦA spec0 c := by
  show Inv m c 16 ⊢ ΦA spec0 c
  unfold ΦA Inv
  rw [scopedRest0_eq]
  simp only [owns_whole]
  iintro ⟨⟨%f4, H4, -⟩, ⟨%f5, H5, -⟩, Hp⟩
  isplitl [H4 H5]
  · isplitl [H4]
    · iexists f4; iexact H4
    iexists f5; iexact H5
  iexact Hp

set_option backward.isDefEq.respectTransparency.types false in
/-- Every weakly fair execution of @main terminates, with every array of the pipeline at what the library computes from
    the proof data, every other buffer as the host lines leave it, and every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hin := Inv_in m) (hout := Inv_out m)

/-- The frame: the arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_with_sems (frame_of m ρ (dats m) fun _ _ => rfl) (run_main m ρ)

/-! ## The result -/

/-- The result array's one word after the run. -/
theorem final2 (c : Dev nD) : (dats m 0 c).arrAt 2 cfg0.N = (fun _ => value m c : Buf (Elt F) ((c.tc : Thread nD τ).loc main_v2)) :=
  (dats m 0 c).arrAt_eq_of_after_last 2 t0_15 (by decide +kernel) _ fun j => by rw [after0_2]; rfl

/-- The value run: the kernel's result ends at `value`, the arguments as launched. -/
theorem run : θ_run defs (onTc (τ := τ) (main (F := F))) ⟨m, fun _ => 0, ρ⟩ (fun r => ∀ c : Dev nD,
      r.2.mem ((c.tc : Thread nD τ).loc main_v3) = (fun _ => value m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨by
      rw [(h.1 c).2 main_v3 (Pipeline.mem_restRefs_of main_v3 (by decide) (by decide))]
      unfold Pipeline.afterTail₀
      simp only [hostOps1, List.flatten_cons, List.flatten_nil, List.append_nil, StableHlo.after_cons, StableHlo.after_nil]
      rw [StableHlo.reshape_result']
      funext i
      show Pipeline.withArrays spec0 c (V0 m c) (fun w => (dats m 0 c).arrAt w cfg0.N) (Proc.devRef .tc (Pipeline.arrRef spec0 2)) _ = _
      rw [Pipeline.withArrays_arr spec0 winFacts0.arr_inj, final2],
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c)⟩)
    (run_main m ρ)

end Cert.Proof

end
-- ==== Proof.BitsFrame.lean ====
module

public import proofs.«01_k».proof.Proof.Launch
public import proofs.«01_k».proof.Proof.Gen.Kernel

@[expose] public section

noncomputable section

namespace Cert.Proof

open Idealize.ShloMosaic Idealize.ShloMosaic.TcCoe Idealize.SL Idealize.SL.Sem

variable {F : FTy → Type} [FloatOps F]

/-! ## The word-level program is the idealized one, over other scalars

The idealizing pass rewrote nothing, so the two printed programs have the same text; every declaration of the one unfolds to
the other's. -/

theorem defs₀_same : Cert.Kernel.defs₀ (F := F) = Cert.KernelIdeal.defs₀ (F := F) := by
  unfold Cert.Kernel.defs₀ Cert.KernelIdeal.defs₀
  refine congrArg Defs.onTc (funext fun l => ?_)
  fin_cases l
  rfl

theorem defs_same : Cert.Kernel.defs (F := F) = Cert.KernelIdeal.defs (F := F) := by
  show Pipeline.defs _ _ = Pipeline.defs _ _
  exact congrArg (Pipeline.defs _) defs₀_same

theorem main_same : Cert.Kernel.main (F := F) = Cert.KernelIdeal.main (F := F) := rfl

/-- The frame of the word-level program: the arguments end as launched, every counter at zero. -/
theorem frame_bits (m : (ℓ : Loc Cert.Kernel.nD Cert.Kernel.τ Cert.Kernel.sig) → Buf (Elt F) ℓ) (ρ : Dev Cert.Kernel.nD → PrngReg) :
    θ_run Cert.Kernel.defs (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [defs_same, main_same]
  exact frame (F := F) m ρ

end Cert.Proof

end
-- ==== Proof.Loss.lean ====
module

public import Idealize.ShloMosaic.PureOps.Ideal

@[expose] public section

noncomputable section

namespace Cert.Proof

open Idealize.ShloMosaic

/-! # The loss over the extended reals, over any finite index set

The kernel's form is `sum of differences + (sum of squared excesses - eps * sum of large differences) / (2 t + eps)`; the
reference's is a sum of one term per valid element. Both are stated here without arrays or blocks. -/

/-- The absolute difference. -/
def diff (x y : EReal) : EReal := max (x - y) (-(x - y))
/-- The difference of a valid element (one whose ground truth exceeds `e`), zero elsewhere. -/
def masked (e x y : EReal) : EReal := if e < y then diff x y else 0
/-- How far `v` exceeds the threshold `t`, squared. -/
def excess (t v : EReal) : EReal := max (v - t) 0 * max (v - t) 0
/-- `v` where it is above the threshold `t`, zero elsewhere. -/
def above (t v : EReal) : EReal := if t < v then v else 0
/-- The kernel's total at threshold `t`, of the masked differences `v`. -/
def kernelTotal {ι : Type} [Fintype ι] (e two t : EReal) (v : ι → EReal) : EReal :=
  (∑ i, v i) + Ideal.div ((∑ i, excess t (v i)) - e * ∑ i, above t (v i)) (two * t + e)
/-- The reference's term at one element: nothing where it is not valid, the quadratic branch where the difference is above
    the threshold `t`, the difference elsewhere. -/
def berhu (e two t x y : EReal) : EReal :=
  if e < y then (if t < diff x y then Ideal.div ((x - y) * (x - y) + t * t) (two * t + e) else diff x y) else 0

theorem diff_nonneg (x y : EReal) : 0 ≤ diff x y := by
  unfold diff
  rcases le_total 0 (x - y) with h | h
  · exact le_max_of_le_left h
  · exact le_max_of_le_right (EReal.neg_nonneg.2 h)

theorem masked_nonneg (e x y : EReal) : 0 ≤ masked e x y := by
  unfold masked; split
  · exact diff_nonneg x y
  · exact le_rfl

/-- Squaring forgets the sign. -/
theorem sq_of_diff {x y : EReal} {a : ℝ} (h : diff x y = a) : (x - y) * (x - y) = ((a * a : ℝ) : EReal) := by
  rcases max_choice (x - y) (-(x - y)) with h' | h' <;> rw [diff, h'] at h
  · rw [h, EReal.coe_mul]
  · rw [← neg_neg (x - y), h, ← EReal.coe_neg, ← EReal.coe_mul, neg_mul_neg]

/-- A finite sum of reals, in the extended reals. -/
theorem coe_sum {ι : Type} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

/-- Division by a nonzero real is the real quotient. -/
theorem div_coe (a : ℝ) {b : ℝ} (hb : b ≠ 0) : Ideal.div (a : EReal) (b : EReal) = ((a / b : ℝ) : EReal) := by
  rw [Ideal.div, if_neg (by exact_mod_cast hb), ← EReal.coe_inv, ← EReal.coe_mul, div_eq_mul_inv]

/-- Zero divided by a positive real or by infinity is zero. -/
theorem zero_div_of_pos {b : EReal} (hb : 0 < b) : Ideal.div 0 b = 0 := by
  rw [Ideal.div, if_neg hb.ne', zero_mul]

/-! ## The two totals at one threshold -/

section Totals

variable {ι : Type} [Fintype ι] (p g : ι → EReal) {ε : ℝ}

/-- At a real threshold, with every masked difference real, the two totals are the same real sum. -/
theorem total_of_real (hε : 0 < ε) {r : ℝ} (hr : 0 ≤ r) (a : ι → ℝ) (ha : ∀ i, masked ε (p i) (g i) = a i) :
    kernelTotal ε (2 : ℝ) r (fun i => masked ε (p i) (g i)) = ∑ i, berhu ε (2 : ℝ) r (p i) (g i) := by
  have hD : 2 * r + ε ≠ 0 := by positivity
  have hx : ∀ i, excess r (a i) = ((max (a i - r) 0 * max (a i - r) 0 : ℝ) : EReal) := fun i => by
    rw [excess, EReal.coe_mul, EReal.coe_strictMono.monotone.map_max, EReal.coe_sub, EReal.coe_zero]
  have hb : ∀ i, above r (a i) = ((if r < a i then a i else 0 : ℝ) : EReal) := fun i => by
    unfold above; simp only [EReal.coe_lt_coe_iff]; split <;> simp
  have ht : ∀ i, berhu ε (2 : ℝ) r (p i) (g i) = ((if r < a i then (a i * a i + r * r) / (2 * r + ε) else a i : ℝ) : EReal) := fun i => by
    have h := ha i
    unfold masked at h
    unfold berhu
    by_cases hv : (ε : EReal) < g i
    · rw [if_pos hv] at h
      rw [if_pos hv, h, sq_of_diff h]
      simp only [EReal.coe_lt_coe_iff]
      split
      · rw [← EReal.coe_mul, ← EReal.coe_mul, ← EReal.coe_add, ← EReal.coe_add, div_coe _ hD]
      · rfl
    · rw [if_neg hv] at h
      have h0 : a i = 0 := by exact_mod_cast h.symm
      rw [if_neg hv, h0, if_neg (not_lt.2 hr), EReal.coe_zero]
  unfold kernelTotal
  simp only [ha, hx, hb, ht]
  rw [← coe_sum, ← coe_sum, ← coe_sum, ← coe_sum, ← EReal.coe_mul, ← EReal.coe_mul, ← EReal.coe_sub, ← EReal.coe_add, div_coe _ hD,
    ← EReal.coe_add, Finset.mul_sum, ← Finset.sum_sub_distrib, Finset.sum_div, ← Finset.sum_add_distrib]
  refine congrArg _ (Finset.sum_congr rfl fun i _ => ?_)
  by_cases h : r < a i
  · rw [if_pos h, if_pos h, max_eq_left (by linarith)]
    field_simp; ring
  · rw [if_neg h, if_neg h, max_eq_right (by linarith)]
    simp

/-- At an infinite threshold no element is above it, and both totals are the sum of the masked differences. -/
theorem total_of_top : kernelTotal ε (2 : ℝ) ⊤ (fun i => masked ε (p i) (g i)) = ∑ i, berhu ε (2 : ℝ) ⊤ (p i) (g i) := by
  have hx : ∀ v : EReal, excess ⊤ v = 0 := fun v => by
    have : v - ⊤ = ⊥ := EReal.sub_top v
    rw [excess, this, max_eq_right bot_le, mul_zero]
  have hb : ∀ v : EReal, above ⊤ v = 0 := fun v => if_neg not_top_lt
  have ht : ∀ x y : EReal, berhu ε (2 : ℝ) ⊤ x y = masked ε x y := fun x y => by
    unfold berhu masked; rw [if_neg not_top_lt]
  have hD : (0 : EReal) < ((2 : ℝ) : EReal) * ⊤ + ε := by
    rw [EReal.coe_mul_top_of_pos (by norm_num), EReal.top_add_coe]; exact EReal.coe_lt_top 0
  unfold kernelTotal
  simp only [hx, hb, ht, Finset.sum_const_zero, mul_zero, sub_zero]
  rw [zero_div_of_pos hD, add_zero]

end Totals

/-! ## The thresholds -/

/-- The largest masked difference, never below zero, as the kernel keeps it. -/
def kernelTop {ι : Type} [Fintype ι] (e : EReal) (p g : ι → EReal) : EReal :=
  max 0 (Finset.univ.sup fun i => masked e (p i) (g i))
/-- The largest difference of a valid element, as the reference takes it: minus infinity when no element is valid. -/
def referenceTop {ι : Type} [Fintype ι] (e : EReal) (p g : ι → EReal) : EReal :=
  Finset.univ.sup fun i => if e < g i then diff (p i) (g i) else ⊥

section Main

variable {ι : Type} [Fintype ι] (p g : ι → EReal) {ε : ℝ}

/-- The difference of a valid element is at most the reference's maximum. -/
theorem le_referenceTop {i : ι} (h : (ε : EReal) < g i) : diff (p i) (g i) ≤ referenceTop ε p g :=
  le_trans (le_of_eq (if_pos h).symm)
    (Finset.le_sup (f := fun i => if (ε : EReal) < g i then diff (p i) (g i) else ⊥) (Finset.mem_univ i))

/-- With a valid element the two maxima are the same. -/
theorem top_eq {i₀ : ι} (h : (ε : EReal) < g i₀) : kernelTop ε p g = referenceTop ε p g := by
  have h0 : 0 ≤ referenceTop ε p g := (diff_nonneg _ _).trans (le_referenceTop p g h)
  refine le_antisymm (max_le h0 (Finset.sup_le fun i _ => ?_)) (le_max_of_le_right (Finset.sup_mono_fun fun i _ => ?_))
  · unfold masked
    split
    · next hv => exact le_referenceTop p g hv
    · exact h0
  · unfold masked
    split
    · exact le_rfl
    · exact bot_le

/-- THE EQUATION: the kernel's total at half its largest masked difference is the sum of the reference's terms at half its
    largest valid difference, whatever the elements: no valid element, infinities and all. -/
theorem total_eq (hε : 0 < ε) :
    kernelTotal ε (2 : ℝ) (((1 / 2 : ℝ) : EReal) * kernelTop ε p g) (fun i => masked ε (p i) (g i))
      = ∑ i, berhu ε (2 : ℝ) (((1 / 2 : ℝ) : EReal) * referenceTop ε p g) (p i) (g i) := by
  have hk0 : 0 ≤ kernelTop ε p g := le_max_left _ _
  have hle : ∀ i, masked ε (p i) (g i) ≤ kernelTop ε p g := fun i =>
    le_max_of_le_right (Finset.le_sup (f := fun i => masked ε (p i) (g i)) (Finset.mem_univ i))
  by_cases hv : ∃ i, (ε : EReal) < g i
  · obtain ⟨i₀, h₀⟩ := hv
    rw [← top_eq p g h₀]
    by_cases ht : kernelTop ε p g = ⊤
    · rw [ht, EReal.coe_mul_top_of_pos (by norm_num)]
      exact total_of_top p g
    · have hr : ((kernelTop ε p g).toReal : EReal) = kernelTop ε p g :=
        EReal.coe_toReal ht (ne_of_gt (lt_of_lt_of_le EReal.bot_lt_zero hk0))
      rw [← hr, ← EReal.coe_mul]
      refine total_of_real p g hε (mul_nonneg (by norm_num) (EReal.toReal_nonneg hk0))
        (fun i => (masked ε (p i) (g i)).toReal) fun i => (EReal.coe_toReal ?_ ?_).symm
      · exact ne_of_lt (lt_of_le_of_lt (hle i) (lt_top_iff_ne_top.2 ht))
      · exact ne_of_gt (lt_of_lt_of_le EReal.bot_lt_zero (masked_nonneg _ _ _))
  · have hm : ∀ i, masked ε (p i) (g i) = 0 := fun i => if_neg fun h => hv ⟨i, h⟩
    have hz : kernelTop ε p g = 0 := le_antisymm (max_le le_rfl (Finset.sup_le fun i _ => (hm i).le)) hk0
    have hb : ∀ t i, berhu ε (2 : ℝ) t (p i) (g i) = 0 := fun t i => if_neg fun h => hv ⟨i, h⟩
    have h := total_of_real p g hε le_rfl (fun _ => 0) fun i => (hm i).trans EReal.coe_zero.symm
    rw [EReal.coe_zero] at h
    rw [hz, mul_zero, h]
    simp only [hb]

end Main

end Cert.Proof

end
-- ==== Proof.Blocks.lean ====
module

public import proofs.«01_k».proof.Proof.Body
public import proofs.«01_k».proof.Proof.Loss
public import Idealize.ShloMosaic.Lib.Pointwise

@[expose] public section

set_option maxRecDepth 16384

noncomputable section

namespace Cert.Proof

open Cert.KernelIdeal Cert.KernelIdeal.Gen
open Idealize.ShloMosaic

/-! # What one block's arithmetic is over the extended reals -/

/-! ## The literals -/

/-- The programs' small constant, as the real its word is. -/
def eps : ℝ := 10995116 / 2 ^ 40
theorem eps_pos : 0 < eps := by unfold eps; positivity

theorem lit_zero : (FloatOps.ofBits .f32 0x00000000#32 : Ideal .f32) = (0 : EReal) := by
  simp [FloatOps.ofBits, Ideal.ofBits, Ideal.ieee, -EReal.coe_mul]
theorem lit_one : (FloatOps.ofBits .f32 0x3F800000#32 : Ideal .f32) = (1 : EReal) := by
  simp [FloatOps.ofBits, Ideal.ofBits, Ideal.ieee, -EReal.coe_mul]; norm_num
theorem lit_half : (FloatOps.ofBits .f32 0x3F000000#32 : Ideal .f32) = ((1 / 2 : ℝ) : EReal) := by
  simp [FloatOps.ofBits, Ideal.ofBits, Ideal.ieee, -EReal.coe_mul]; norm_num
theorem lit_two : (FloatOps.ofBits .f32 0x40000000#32 : Ideal .f32) = ((2 : ℝ) : EReal) := by
  simp [FloatOps.ofBits, Ideal.ofBits, Ideal.ieee, -EReal.coe_mul]; norm_num
theorem lit_eps : (FloatOps.ofBits .f32 0x3727C5AC#32 : Ideal .f32) = (eps : EReal) := by
  simp [FloatOps.ofBits, Ideal.ofBits, Ideal.ieee, -EReal.coe_mul, eps]; norm_num
theorem lit_bot : (FloatOps.ofBits .f32 0xFF800000#32 : Ideal .f32) = (⊥ : EReal) := by
  simp [FloatOps.ofBits, Ideal.ofBits, Ideal.ieee, -EReal.coe_mul]

/-- A choice by the bit of an ordered comparison is a choice by the order. -/
theorem select_gt {α : Type} (x y : EReal) (a b : α) : Scalar.select (Ideal.cmp .ogt x y) a b = if y < x then a else b := by
  unfold Scalar.select Ideal.cmp
  by_cases h : y < x <;> simp [h]

/-! ## A block reduced to one word -/

theorem S1_subsingleton (i j : S1.Idx) : i = j := by
  funext a
  apply Fin.ext
  have hi := (i a).isLt
  have hj := (j a).isLt
  have : S1.size a = 1 := by fin_cases a; rfl
  omega

section Reductions

variable {s s' t : Shape} {axes : List (Fin s.rank)}

/-- A sum into one word is the sum of all elements. -/
theorem reduceAdd_one (h : s.Reduces axes t) (ht : ∀ i j : t.Idx, i = j) (x : s.Idx → EReal) (j : t.Idx) :
    Ideal.reduceAdd h x j = ∑ i, x i := by
  unfold Ideal.reduceAdd
  rw [Finset.filter_true_of_mem fun i _ => ht _ _]

/-- A maximum into one word is the supremum of all elements. -/
theorem reduceMax_one (h : s.Reduces axes t) (ht : ∀ i j : t.Idx, i = j) (x : s.Idx → EReal) (j : t.Idx) :
    reduceFold h max (⊥ : EReal) x j = Finset.univ.sup x := by
  rw [reduceFold_eq_fold, Finset.filter_true_of_mem fun i _ => ht _ _]
  rfl

/-- A reshape keeps the sum. -/
theorem sum_shapeCast (h : s.ShapeCasts s') (x : s.Idx → EReal) : ∑ i, shapeCast s' x h i = ∑ i, x i :=
  Equiv.sum_comp (Shape.reshapeEquiv h) x

/-- A reshape keeps the supremum. -/
theorem sup_shapeCast (h : s.ShapeCasts s') (x : s.Idx → EReal) : Finset.univ.sup (shapeCast s' x h) = Finset.univ.sup x := by
  have := Finset.sup_map Finset.univ (Shape.reshapeEquiv h).toEmbedding x
  rw [Finset.map_univ_equiv] at this
  exact this.symm

/-- A block reshaped, reduced by `max` to one word and that word taken out is the block's supremum. -/
theorem word_max {u v : Shape} (hc : u.ShapeCasts s) (h : s.Reduces axes t) (ht : ∀ i j : t.Idx, i = j) (x : u.Idx → EReal) (hφ : FKind.Formats .f32)
    (hacc : 0xFF800000#32 = FKind.maximumf.neutral .f32 hφ) (hv : t.ShapeCasts v) (pos : Fin v.rank → Nat) (hpos : ∀ a, pos a < v.size a) :
    extractAt pos (shapeCast v (multiReduction (F := Ideal) (φ := .f32) .maximumf axes t (shapeCast s x hc) 0xFF800000#32 h hφ hacc) hv) hpos
      = Finset.univ.sup x := by
  show reduceFold h max (FloatOps.ofBits .f32 0xFF800000#32 : Ideal .f32) (shapeCast s x hc) _ = _
  rw [lit_bot, reduceMax_one h ht, sup_shapeCast]

end Reductions

/-- The sum of a block, as the body computes it. -/
theorem block_sum (x : FVec Ideal S512x1024 .f32) :
    extractAt ![0, 0, 0] (shapeCast S1x1x1 (multiReduction .add [1, 2] S1 (shapeCast S1x512x1024 x shapeCasts_S512x1024_S1x512x1024)
      0x00000000#32 reduces_S1x512x1024_S1 (.inl rfl) rfl) shapeCasts_S1_S1x1x1) inpos_S1x1x1_p0_0_0 = (∑ i, x i : EReal) :=
  (reduceAdd_one reduces_S1x512x1024_S1 S1_subsingleton _ _).trans (sum_shapeCast _ x)

/-- The largest element of a block, as the body computes it. -/
theorem block_max (x : S512x1024.Idx → EReal) :
    extractAt (α := EReal) ![0, 0, 0] (shapeCast S1x1x1 (multiReduction (F := Ideal) (φ := .f32) .maximumf [1, 2] S1 (shapeCast S1x512x1024 x shapeCasts_S512x1024_S1x512x1024)
      0xFF800000#32 reduces_S1x512x1024_S1 (.inl rfl) rfl) shapeCasts_S1_S1x1x1) inpos_S1x1x1_p0_0_0 = Finset.univ.sup x :=
  word_max _ _ S1_subsingleton x _ _ _ _ _

/-! ## The operations on one word -/

section Words

variable (a b : Ideal .f32)

theorem add_eq : Scalar.addf a b = ((a : EReal) + b : EReal) := rfl
theorem sub_eq : Scalar.subf a b = ((a : EReal) - b : EReal) := rfl
theorem mul_eq : Scalar.mulf a b = ((a : EReal) * b : EReal) := rfl
theorem max_eq : Scalar.maximumf a b = (max (a : EReal) b : EReal) := rfl
theorem div_eq : Scalar.divf a b = Ideal.div a b := rfl

end Words

/-! ## The payloads -/

/-- The masked differences of a block. -/
theorem pay8_eq (p g : Blk Ideal) : k0_pay8 p g = fun x => masked eps (p x) (g x) := by
  funext x
  unfold k0_pay8 k0_pay7 k0_pay6
  simp only [shapeCast_self]
  refine (select_gt _ _ _ _).trans ?_
  rw [show broadcast S512x1024 (Scalar.ofBits .f32 0x3727C5AC#32 : Ideal .f32) x = (eps : EReal) from lit_eps,
    show broadcast S512x1024 (Scalar.ofBits .f32 0x00000000#32 : Ideal .f32) x = (0 : EReal) from lit_zero]
  rfl

/-- What a point keeps is its masked differences. -/
theorem pay9_eq (p g : Blk Ideal) : k0_pay9 p g = fun x => masked eps (p x) (g x) := by
  unfold k0_pay9
  simp only [shapeCast_self]
  exact pay8_eq p g

/-- One for a valid element, zero elsewhere. -/
def one (e y : EReal) : EReal := if e < y then 1 else 0

/-- The valid elements of a block, as ones and zeros. -/
theorem pay12_eq (g : Blk Ideal) : k0_pay12 g = fun x => one eps (g x) := by
  funext x
  unfold k0_pay12 k0_pay7 k0_pay6
  simp only [shapeCast_self]
  refine (select_gt _ _ _ _).trans ?_
  rw [show broadcast S512x1024 (Scalar.ofBits .f32 0x3727C5AC#32 : Ideal .f32) x = (eps : EReal) from lit_eps,
    show broadcast S512x1024 (Scalar.ofBits .f32 0x00000000#32 : Ideal .f32) x = (0 : EReal) from lit_zero,
    show broadcast S512x1024 (Scalar.ofBits .f32 0x3F800000#32 : Ideal .f32) x = (1 : EReal) from lit_one]
  rfl

/-- The running maximum takes the block's largest masked difference. -/
theorem pay10_eq (p g : Blk Ideal) (t : Ideal .f32) :
    k0_pay10 p g t = max (t : EReal) (Finset.univ.sup fun x => masked eps (p x) (g x)) := by
  unfold k0_pay10
  dsimp only
  rw [block_max, max_eq, pay8_eq]

/-- The running sum takes the sum of the block's masked differences. -/
theorem pay11_eq (p g : Blk Ideal) (s : Ideal .f32) : k0_pay11 p g s = (s : EReal) + ∑ x, masked eps (p x) (g x) := by
  unfold k0_pay11
  dsimp only
  rw [block_sum, add_eq, pay8_eq]

/-- The running count takes the count of the block's valid elements. -/
theorem pay1_eq (g : Blk Ideal) (n : Ideal .f32) : k0_pay1 n (k0_pay12 g) = (n : EReal) + ∑ x, one eps (g x) := by
  unfold k0_pay1
  dsimp only
  rw [block_sum, add_eq, pay12_eq]

/-- Half of a word. -/
def half (t : EReal) : EReal := ((1 / 2 : ℝ) : EReal) * t

/-- The threshold is half the maximum. -/
theorem pay2_eq (t : Ideal .f32) : k0_pay2 (F := Ideal) t = half t := by
  unfold k0_pay2 half
  dsimp only
  rw [mul_eq, ← lit_half]

/-- The loop's first sum takes the squared excesses of a kept block. -/
theorem pay3_eq (t w : Ideal .f32) (v : Blk Ideal) : k0_pay3 t w v = (w : EReal) + ∑ x, excess (half t) (v x) := by
  unfold k0_pay3
  dsimp only
  rw [block_sum, add_eq, pay2_eq]
  refine congrArg ((w : EReal) + ·) (Finset.sum_congr rfl fun x _ => ?_)
  unfold excess
  rw [← lit_zero]
  rfl

/-- The loop's second sum takes the elements of a kept block above the threshold. -/
theorem pay4_eq (t b : Ideal .f32) (v : Blk Ideal) : k0_pay4 t b v = (b : EReal) + ∑ x, above (half t) (v x) := by
  unfold k0_pay4
  dsimp only
  rw [block_sum, add_eq, pay2_eq]
  refine congrArg ((b : EReal) + ·) (Finset.sum_congr rfl fun x _ => ?_)
  refine (select_gt _ _ _ _).trans ?_
  unfold above
  rw [← lit_zero]
  rfl

/-- The last point's quotient. -/
theorem pay5_eq (t w b s n : Ideal .f32) : k0_pay5 t w b s n
    = Ideal.div ((s : EReal) + Ideal.div ((w : EReal) - (eps : EReal) * (b : EReal)) (((2 : ℝ) : EReal) * half t + (eps : EReal))) n := by
  unfold k0_pay5
  dsimp only
  rw [pay2_eq, ← lit_eps, ← lit_two]
  rfl

end Cert.Proof

end
-- ==== Proof.Fold.lean ====
module

public import proofs.«01_k».proof.Proof.Blocks
public import proofs.«01_k».proof.Proof.Launch
public import Idealize.ShloMosaic.Lib.Pipeline.ValueKit

@[expose] public section

set_option maxRecDepth 16384

noncomputable section

namespace Cert.Proof

open Cert.KernelIdeal Cert.KernelIdeal.Gen
open Idealize.ShloMosaic Idealize.ShloMosaic.TcCoe Idealize.SL.Sem

/-! # The kernel's value over the extended reals: sums and a supremum over all elements -/

variable (m : (ℓ : Loc nD τ sig) → Buf (Elt Ideal) ℓ) (c : Dev nD)

/-- The predictions, as launched. -/
def preds : S32x1x512x512.Idx → EReal := m ((c.tc : Thread nD τ).loc main_arg0)
/-- The ground truths, as launched. -/
def truths : S32x1x512x512.Idx → EReal := m ((c.tc : Thread nD τ).loc main_arg1)

/-! ## Where an element of a block lies in the arrays -/

theorem numel_rows : S8192x1024.numel = S32x1x512x512.numel := by decide

/-- Element `x` of block `k` in the array of 8192 rows. -/
def row (k : ℕ) (x : S512x1024.Idx) : S8192x1024.Idx := ix2 ⟨512 * (k % 16) + (x 0).val, by
  have : (x 0).val < 512 := (x 0).isLt
  have : k % 16 < 16 := Nat.mod_lt _ (by decide)
  omega⟩ (x 1)
/-- Element `x` of block `k` in the array of 32 images. -/
def place (k : ℕ) (x : S512x1024.Idx) : S32x1x512x512.Idx :=
  Shape.reshapeEquiv numel_rows (row k x)

theorem index0 : ∀ t : Fin cfg0.N, win0_0.index t = ![t.val, 0] := by decide +kernel
theorem index1 : ∀ t : Fin cfg0.N, win0_1.index t = ![t.val, 0] := by decide +kernel

/-- The kernel's two operands are the arguments reshaped to rows of 1024. -/
theorem V_v0 : (V m c main_v0 : S8192x1024.Idx → EReal) = fun y => preds m c (Shape.reshapeEquiv numel_rows y) := by
  entry_read
  rfl
theorem V_v1 : (V m c main_v1 : S8192x1024.Idx → EReal) = fun y => truths m c (Shape.reshapeEquiv numel_rows y) := by
  entry_read
  rfl

theorem emb0 (k : ℕ) (x : S512x1024.Idx) : ((View.whole main_v0).slice (win0_0.rect (pt k))).emb x = row k x := by
  blk_ext [row]
  · rw [index0 (pt k)]; show k % 16 * 512 + _ = _; omega
  · rw [index0 (pt k)]; show 0 * 1024 + _ = _; omega
theorem emb1 (k : ℕ) (x : S512x1024.Idx) : ((View.whole main_v1).slice (win0_1.rect (pt k))).emb x = row k x := by
  blk_ext [row]
  · rw [index1 (pt k)]; show k % 16 * 512 + _ = _; omega
  · rw [index1 (pt k)]; show 0 * 1024 + _ = _; omega

theorem pblk_at_place (k : ℕ) (x : S512x1024.Idx) : pblk m c k x = preds m c (place k x) := by
  unfold pblk place
  rw [← emb0, ← congrFun (V_v0 m c)]
  rfl
theorem gblk_at_place (k : ℕ) (x : S512x1024.Idx) : gblk m c k x = truths m c (place k x) := by
  unfold gblk place
  rw [← emb1, ← congrFun (V_v1 m c)]
  rfl

/-- Every element of the arrays lies in exactly one block, at one place. -/
theorem place_bijective : Function.Bijective fun q : Fin 16 × S512x1024.Idx => place q.1 q.2 := by
  refine (Shape.reshapeEquiv numel_rows).bijective.comp (f := fun q : Fin 16 × S512x1024.Idx => row q.1 q.2) ⟨fun q r h => ?_, fun y => ?_⟩
  · have h0 := congrArg Fin.val (congrFun h 0)
    have h1 := congrArg Fin.val (congrFun h 1)
    have hq : (q.2 0).val < 512 := (q.2 0).isLt
    have hr : (r.2 0).val < 512 := (r.2 0).isLt
    have hq' := q.1.isLt
    have hr' := r.1.isLt
    change 512 * (q.1.val % 16) + (q.2 0).val = 512 * (r.1.val % 16) + (r.2 0).val at h0
    change (q.2 1).val = (r.2 1).val at h1
    refine Prod.ext (Fin.ext (by omega)) (funext fun a => Fin.ext ?_)
    fin_cases a
    · show (q.2 0).val = (r.2 0).val
      omega
    · exact h1
  · have h0 : (y 0).val < 8192 := (y 0).isLt
    refine ⟨(⟨(y 0).val / 512, by omega⟩, ix2 ⟨(y 0).val % 512, Nat.mod_lt _ (by decide)⟩ (y 1)), funext fun a => Fin.ext ?_⟩
    fin_cases a
    · show 512 * ((y 0).val / 512 % 16) + (y 0).val % 512 = (y 0).val
      omega
    · rfl

section Blocks

variable (f : S32x1x512x512.Idx → EReal)

/-- Summing block by block is summing over all elements. -/
theorem sum_blocks : ∑ k ∈ Finset.range 16, ∑ x, f (place k x) = ∑ i, f i := by
  rw [Finset.sum_range fun k => ∑ x, f (place k x), ← Fintype.sum_prod_type' fun (k : Fin 16) x => f (place k x)]
  exact Function.Bijective.sum_comp place_bijective f

/-- The largest of the blocks' suprema is the supremum over all elements. -/
theorem sup_blocks : ((Finset.range 16).sup fun k => Finset.univ.sup fun x => f (place k x)) = Finset.univ.sup f := by
  refine le_antisymm (Finset.sup_le fun k _ => Finset.sup_le fun x _ => Finset.le_sup (Finset.mem_univ _)) (Finset.sup_le fun i _ => ?_)
  obtain ⟨q, rfl⟩ := place_bijective.surjective i
  exact le_trans (Finset.le_sup (f := fun x => f (place q.1 x)) (Finset.mem_univ q.2))
    (Finset.le_sup (f := fun k => Finset.univ.sup fun x => f (place k x)) (Finset.mem_range.2 q.1.isLt))

end Blocks

/-! ## The running scalars and the loop's sums -/

/-- The masked difference of an element. -/
def dv (i : S32x1x512x512.Idx) : EReal := masked eps (preds m c i) (truths m c i)

theorem dv_place (k : ℕ) (x : S512x1024.Idx) : masked eps (pblk m c k x) (gblk m c k x) = dv m c (place k x) := by
  rw [pblk_at_place, gblk_at_place]; rfl

/-- The running scalars before point `n`, of the blocks before it. -/
theorem acc_top (n : ℕ) : (acc m c n).top = max 0 ((Finset.range n).sup fun k => Finset.univ.sup fun x => dv m c (place k x)) := by
  induction n with
  | zero => rw [Finset.range_zero, Finset.sup_empty, max_bot_right]; exact lit_zero
  | succ n ih =>
    refine (pay10_eq _ _ _).trans ?_
    rw [ih, Finset.range_add_one, Finset.sup_insert, max_assoc]
    simp only [dv_place]
    exact congrArg _ (sup_comm _ _)
theorem acc_sum (n : ℕ) : (acc m c n).sum = ∑ k ∈ Finset.range n, ∑ x, dv m c (place k x) := by
  induction n with
  | zero => exact lit_zero
  | succ n ih =>
    refine (pay11_eq _ _ _).trans ?_
    rw [ih, Finset.sum_range_succ]
    simp only [dv_place]
theorem acc_cnt (n : ℕ) : (acc m c n).cnt = ∑ k ∈ Finset.range n, ∑ x, one eps (truths m c (place k x)) := by
  induction n with
  | zero => exact lit_zero
  | succ n ih =>
    refine (pay1_eq _ _).trans ?_
    rw [ih, Finset.sum_range_succ]
    simp only [gblk_at_place]

/-- The loop's two sums before trip `n`, of the kept blocks before it. -/
theorem tail_fst (t : Ideal .f32) (n : ℕ) :
    (tailSums t (kept m c) n).1 = ∑ k ∈ Finset.range n, ∑ x, excess (half t) (dv m c (place k x)) := by
  induction n with
  | zero => exact lit_zero
  | succ n ih =>
    refine (pay3_eq _ _ _).trans ?_
    rw [ih, Finset.sum_range_succ, kept, pay9_eq]
    simp only [dv_place]
theorem tail_snd (t : Ideal .f32) (n : ℕ) :
    (tailSums t (kept m c) n).2 = ∑ k ∈ Finset.range n, ∑ x, above (half t) (dv m c (place k x)) := by
  induction n with
  | zero => exact lit_zero
  | succ n ih =>
    refine (pay4_eq _ _ _).trans ?_
    rw [ih, Finset.sum_range_succ, kept, pay9_eq]
    simp only [dv_place]

/-- The kernel's result: its total at half of the largest masked difference, over the number of valid elements. -/
theorem value_eq : value m c
    = Ideal.div (kernelTotal eps (2 : ℝ) (half (kernelTop eps (preds m c) (truths m c))) (dv m c)) (∑ i, one eps (truths m c i)) := by
  have ht : (acc m c 16).top = kernelTop eps (preds m c) (truths m c) := by
    rw [acc_top, sup_blocks]; rfl
  refine (pay5_eq _ _ _ _ _).trans ?_
  rw [tail_fst, tail_snd, acc_sum, acc_cnt, ht, sum_blocks, sum_blocks fun i => one eps (truths m c i),
    sum_blocks fun i => excess _ (dv m c i), sum_blocks fun i => above _ (dv m c i)]
  rfl

end Cert.Proof

end
-- ==== Proof.Reference.lean ====
module

public import proofs.«01_k».proof.Proof.Blocks
public import proofs.«01_k».proof.Proof.Gen.ReferenceIdeal.Run
public import Idealize.ShloMosaic.Lib.StableHlo.Predicate
public import Idealize.ShloMosaic.Lib.Quiescent

@[expose] public section

set_option maxRecDepth 16384

noncomputable section

namespace Cert.Proof.Ref

open Cert.ReferenceIdeal Cert.ReferenceIdeal.Gen
open Idealize.ShloMosaic Idealize.ShloMosaic.TcCoe Idealize.SL.Sem

/-! # The reference's value over the extended reals -/

/-! ## Host reductions to one word, at any shape -/

section Reductions

variable {s t u : Shape} {axes : List (Fin s.rank)} (h : s.ReducesTo axes t) (ht : ∀ i j : t.Idx, i = j) (hu : 0 < u.numel)
include ht

/-- A sum into one word is the initial value and the sum of all elements. -/
theorem host_sum (x : FVec Ideal s .f32) (init : FVec Ideal u .f32) (j : t.Idx) :
    Host.reduceAdd x init h hu j = (init (Shape.Idx.first hu) : EReal) + ∑ i, (x i : EReal) := by
  show Ideal.hostReduceAdd h x _ j = _
  unfold Ideal.hostReduceAdd
  rw [Finset.filter_true_of_mem fun i _ => ht _ _]

/-- A maximum into one word, from minus infinity, is the supremum of all elements. -/
theorem host_max (x : s.Idx → EReal) (init : u.Idx → EReal) (hi : init (Shape.Idx.first hu) = ⊥) (j : t.Idx) :
    Host.reduce (FloatOps.maximumf (F := Ideal) (φ := .f32)) x init h hu j = Finset.univ.sup x := by
  show Host.reduce (α := EReal) max x init h hu j = _
  rw [Host.reduce_eq_fold, hi, Finset.filter_true_of_mem fun i _ => ht _ _]
  rfl

/-- The number of set bits of a mask of fewer than `2 ^ 31` elements, as a word and then as a real. -/
theorem host_count (hs : s.numel < 2 ^ 31) (b : IVec s 1) (hw : 1 < 32) (j : t.Idx) :
    (FloatOps.sitofp (F := Ideal) .f32 (Host.reduce IntOp.addi (extui 32 b hw) (constantI u 32 0#32) h hu j) : EReal)
      = ∑ i, if b i = 1#1 then (1 : EReal) else 0 := by
  classical
  have hle : ∑ i, ((b i).setWidth 32).toNat ≤ s.numel := by
    refine (Finset.sum_le_card_nsmul _ _ 1 fun i _ => ?_).trans (by
      rw [smul_eq_mul, mul_one, Finset.card_univ, Fintype.card_congr s.rowMajor, Fintype.card_fin])
    rw [StableHlo.Predicate.toNat_setWidth_bit]; split <;> omega
  have hn : (Host.reduce IntOp.addi (extui 32 b hw) (constantI u 32 0#32) h hu j).toNat = ∑ i, ((b i).setWidth 32).toNat := by
    rw [Host.reduce_eq_fold, Finset.filter_true_of_mem fun i _ => ht _ _]
    exact StableHlo.Predicate.toNat_fold_addi _ _ (by show ∑ i, ((b i).setWidth 32).toNat < _; omega)
  show (((Host.reduce IntOp.addi (extui 32 b hw) (constantI u 32 0#32) h hu j).toInt : ℝ) : EReal) = _
  rw [StableHlo.Predicate.toInt_eq_toNat_of_lt (by rw [hn]; omega), hn]
  push_cast
  rw [coe_sum]
  refine Finset.sum_congr rfl fun i _ => ?_
  rw [StableHlo.Predicate.toNat_setWidth_bit]
  split <;> simp

end Reductions

/-! ## The reference's named values -/

section Terms

variable (P G : FVec Ideal S32x1x512x512 .f32)

/-- A word at every element. -/
def fill (w : FVec Ideal S_ .f32) : FVec Ideal S32x1x512x512 .f32 := broadcastInDim S32x1x512x512 ![] bcast_S_S32x1x512x512 w
/-- The mask of valid elements. -/
def valid : IVec S32x1x512x512 1 := cmpf .ogt G (fill (constant S_ .f32 0x3727C5AC#32))
/-- The absolute differences. -/
def absDiff : FVec Ideal S32x1x512x512 .f32 := Host.absf (subf P G)
/-- The differences of the valid elements, minus infinity elsewhere. -/
def validDiff : FVec Ideal S32x1x512x512 .f32 := select (valid G) (absDiff P G) (fill (constant S_ .f32 0xFF800000#32))
/-- The largest valid difference. -/
def top : FVec Ideal S_ .f32 :=
  Host.reduce FloatOps.maximumf (validDiff P G) (constant S_ .f32 0xFF800000#32) reducesTo_S32x1x512x512_S_d0_1_2_3 h_S_
/-- Half of it. -/
def threshold : FVec Ideal S_ .f32 := mulf (constant S_ .f32 0x3F000000#32) (top P G)
/-- The quadratic branch. -/
def quad : FVec Ideal S32x1x512x512 .f32 := Host.divf (addf (mulf (subf P G) (subf P G)) (fill (mulf (threshold P G) (threshold P G))))
  (fill (addf (mulf (constant S_ .f32 0x40000000#32) (threshold P G)) (constant S_ .f32 0x3727C5AC#32)))
/-- The terms of the sum. -/
def terms : FVec Ideal S32x1x512x512 .f32 := select (valid G)
  (select (andi (cmpf .ogt (absDiff P G) (fill (threshold P G))) (valid G)) (quad P G) (absDiff P G)) (fill (constant S_ .f32 0x00000000#32))
/-- The reference's result. -/
def result : FVec Ideal S_ .f32 := Host.divf (Host.reduceAdd (terms P G) (constant S_ .f32 0x00000000#32) reducesTo_S32x1x512x512_S_d0_1_2_3 h_S_)
  (sitofp .f32 (Host.reduce IntOp.addi (extui 32 (valid G) natLt_1_32) (constantI S_ 32 0#32) reducesTo_S32x1x512x512_S_d0_1_2_3 h_S_))

theorem S_subsingleton (i j : S_.Idx) : i = j := funext fun a => a.elim0

theorem valid_at (i : S32x1x512x512.Idx) : valid G i = Ideal.cmp .ogt (G i) (eps : EReal) := by
  rw [← lit_eps]; rfl

theorem cmp_gt (x y : EReal) : Ideal.cmp .ogt x y = 1#1 ↔ y < x := by
  unfold Ideal.cmp
  by_cases h : y < x <;> simp [h]

theorem absDiff_at (i : S32x1x512x512.Idx) : absDiff P G i = diff (P i) (G i) := rfl

/-- A constant at its one element is its word's value. -/
theorem const_at (w : BitVec 32) (j : S_.Idx) : (constant S_ .f32 w : FVec Ideal S_ .f32) j = FloatOps.ofBits .f32 w := rfl
theorem fill_at (w : FVec Ideal S_ .f32) (i : S32x1x512x512.Idx) : fill w i = w (Shape.Idx.first h_S_) :=
  congrArg w (S_subsingleton _ _)

theorem validDiff_at (i : S32x1x512x512.Idx) : validDiff P G i = if (eps : EReal) < G i then diff (P i) (G i) else ⊥ := by
  show Scalar.select (valid G i) (absDiff P G i) (fill (constant S_ .f32 0xFF800000#32) i) = _
  rw [valid_at, select_gt, fill_at, absDiff_at, show (constant S_ .f32 0xFF800000#32 : FVec Ideal S_ .f32) (Shape.Idx.first h_S_) = (⊥ : EReal) from lit_bot]

theorem bot_word : (constant (F := Ideal) S_ .f32 0xFF800000#32) (Shape.Idx.first h_S_) = (⊥ : EReal) := (const_at _ _).trans lit_bot

/-- The host's maximum from minus infinity is the supremum. -/
theorem hostMax_at (x : FVec Ideal S32x1x512x512 .f32) (j : S_.Idx) :
    Host.reduce FloatOps.maximumf x (constant S_ .f32 0xFF800000#32) reducesTo_S32x1x512x512_S_d0_1_2_3 h_S_ j = Finset.univ.sup (α := EReal) x :=
  host_max reducesTo_S32x1x512x512_S_d0_1_2_3 S_subsingleton h_S_ x (constant (F := Ideal) S_ .f32 0xFF800000#32) bot_word j

theorem top_at (j : S_.Idx) : top P G j = referenceTop (ι := S32x1x512x512.Idx) eps P G := by
  unfold top referenceTop
  rw [hostMax_at]
  exact congrArg (Finset.univ.sup (α := EReal)) (funext (validDiff_at P G))

/-- The elementwise operations at an element. -/
theorem mulf_at {s : Shape} (x y : FVec Ideal s .f32) (i : s.Idx) : mulf x y i = ((x i : EReal) * y i : EReal) := rfl
theorem addf_at {s : Shape} (x y : FVec Ideal s .f32) (i : s.Idx) : addf x y i = ((x i : EReal) + y i : EReal) := rfl
theorem subf_at {s : Shape} (x y : FVec Ideal s .f32) (i : s.Idx) : subf x y i = ((x i : EReal) - y i : EReal) := rfl
theorem divf_at {s : Shape} (x y : FVec Ideal s .f32) (i : s.Idx) : Host.divf x y i = Ideal.div (x i) (y i) := rfl
theorem select_at {s : Shape} (b : IVec s 1) (x y : FVec Ideal s .f32) (i : s.Idx) : select b x y i = Scalar.select (b i) (x i) (y i) := rfl
theorem andi_at {s : Shape} (b d : IVec s 1) (i : s.Idx) : andi b d i = b i &&& d i := rfl
theorem cmpf_at {s : Shape} (x y : FVec Ideal s .f32) (i : s.Idx) : cmpf .ogt x y i = Ideal.cmp .ogt (x i) (y i) := rfl

theorem threshold_at (j : S_.Idx) : threshold P G j = half (referenceTop (ι := S32x1x512x512.Idx) eps P G) := by
  unfold threshold half
  rw [mulf_at, const_at, lit_half, top_at]

theorem quad_at (i : S32x1x512x512.Idx) : quad P G i = Ideal.div ((P i - G i) * (P i - G i)
    + half (referenceTop (ι := S32x1x512x512.Idx) eps P G) * half (referenceTop (ι := S32x1x512x512.Idx) eps P G))
    (((2 : ℝ) : EReal) * half (referenceTop (ι := S32x1x512x512.Idx) eps P G) + (eps : EReal)) := by
  unfold quad
  rw [divf_at, addf_at, mulf_at, subf_at, fill_at, fill_at, mulf_at, addf_at, mulf_at, const_at, const_at, lit_two, lit_eps, threshold_at]

/-- A term of the reference's sum is the loss of one element at half the largest valid difference. -/
theorem terms_at (i : S32x1x512x512.Idx) :
    terms P G i = berhu eps (2 : ℝ) (half (referenceTop (ι := S32x1x512x512.Idx) eps P G)) (P i) (G i) := by
  unfold terms berhu
  rw [select_at, select_at, andi_at, cmpf_at, fill_at, fill_at, const_at, lit_zero, valid_at, select_gt, threshold_at, quad_at, absDiff_at]
  by_cases hv : (eps : EReal) < G i
  · rw [if_pos hv, if_pos hv, (cmp_gt _ _).2 hv]
    rw [show ∀ b : BitVec 1, b &&& 1#1 = b by decide, select_gt]
  · rw [if_neg hv, if_neg hv]

/-- The reference's sum of terms. -/
theorem total_at (j : S_.Idx) : Host.reduceAdd (terms P G) (constant S_ .f32 0x00000000#32) reducesTo_S32x1x512x512_S_d0_1_2_3 h_S_ j
    = ∑ i, berhu eps (2 : ℝ) (half (referenceTop (ι := S32x1x512x512.Idx) eps P G)) (P i) (G i) := by
  rw [host_sum _ S_subsingleton, const_at, lit_zero, zero_add]
  exact Finset.sum_congr rfl fun i _ => terms_at P G i

/-- The reference's count of valid elements. -/
theorem count_at (j : S_.Idx) : (sitofp (F := Ideal) .f32 (Host.reduce IntOp.addi (extui 32 (valid G) natLt_1_32) (constantI S_ 32 0#32)
    reducesTo_S32x1x512x512_S_d0_1_2_3 h_S_)) j = ∑ i, one eps (G i) := by
  refine (host_count reducesTo_S32x1x512x512_S_d0_1_2_3 S_subsingleton h_S_ (by decide) (valid G) natLt_1_32 j).trans ?_
  refine Finset.sum_congr rfl fun i _ => ?_
  rw [valid_at]
  unfold one
  exact if_congr (cmp_gt _ _) rfl rfl

/-- The reference's result: the mean over the valid elements of their losses. -/
theorem result_at (j : S_.Idx) : result P G j = Ideal.div
    (∑ i, berhu eps (2 : ℝ) (half (referenceTop (ι := S32x1x512x512.Idx) eps P G)) (P i) (G i)) (∑ i, one eps (G i)) := by
  unfold result
  rw [divf_at, total_at, count_at]

end Terms

/-! ## The run -/

variable (m : (ℓ : Loc nD τ sig) → Buf (Elt Ideal) ℓ) (ρ : Dev nD → PrngReg)

/-- The value run: the reference's result ends at `result` of its arguments, the arguments as launched. -/
theorem run : θ_run defs (onTc (τ := τ) (main (F := Ideal))) ⟨m, fun _ => 0, ρ⟩ (fun r => ∀ c : Dev nD,
      r.2.mem ((c.tc : Thread nD τ).loc main_v26) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Cert.ReferenceIdeal.Value.run m ρ

/-- The frame: the arguments end as launched, every counter at zero (the program has none). -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h c).2, sem_eq_zero_of_no_sems (by decide) _⟩) (run m ρ)

end Cert.Proof.Ref

end
-- ==== Proof.lean ====
module

public import proofs.«01_k».proof.Defs
public import proofs.«01_k».proof.Proof.BitsFrame
public import proofs.«01_k».proof.Proof.Fold
public import proofs.«01_k».proof.Proof.Reference

@[expose] public section

noncomputable section

namespace Cert.Proof

open Idealize.ShloMosaic Idealize.ShloMosaic.TcCoe Idealize.SL.Sem

/-- The reference's result, of the arguments the kernel is launched with, is the kernel's value. -/
theorem reference_eq_value (m : (ℓ : Loc Cert.KernelIdeal.nD Cert.KernelIdeal.τ Cert.KernelIdeal.sig) → Buf (Elt Ideal) ℓ)
    (c : Dev Cert.KernelIdeal.nD) : Ref.result (preds m c) (truths m c) = fun _ => value m c := by
  funext j
  rw [Ref.result_at, value_eq]
  exact congrArg (fun x => Ideal.div x _) (total_eq (preds m c) (truths m c) eps_pos).symm

/-- The kernel and the reference end with equal results over the extended reals. -/
theorem algebraic [Cert.KernelIdeal.Facts] [Cert.ReferenceIdeal.Facts] : Cert.algebraic_KernelIdeal_ReferenceIdeal :=
  fun m g m' g' _ hag => ⟨fun c _ => value m c, run m g,
    (θ_run Cert.ReferenceIdeal.defs _ _).mono (fun r h c => ⟨by
      rw [(h c).1, (hag c).1, (hag c).2]
      exact reference_eq_value m c, (h c).2⟩) (Ref.run m' g')⟩

theorem claim : Cert.Claim := ⟨Cert.Kernel.Gen.facts, Cert.KernelIdeal.Gen.facts, Cert.ReferenceIdeal.Gen.facts,
  fun m g _ => frame_bits m g, fun m g _ => frame m g, fun m g _ => Ref.frame m g, trivial, algebraic⟩

end Cert.Proof

end
